-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4x512 : Shape := ⟨2, ![4, 512]⟩
abbrev S4x512x768 : Shape := ⟨3, ![4, 512, 768]⟩
abbrev S4x512x8x100 : Shape := ⟨4, ![4, 512, 8, 100]⟩
abbrev S4x512x8x8x100 : Shape := ⟨5, ![4, 512, 8, 8, 100]⟩
abbrev S100x100 : Shape := ⟨2, ![100, 100]⟩
abbrev S100x768 : Shape := ⟨2, ![100, 768]⟩
abbrev S100 : Shape := ⟨1, ![100]⟩
abbrev S_ : Shape := ⟨0, ![]⟩

class Facts : Prop where
  bcast_S_S4x512 : S_.BroadcastsInDim S4x512 (![] : Fin 0 → Fin S4x512.rank)
  bcast_S_S4x512x8x100 : S_.BroadcastsInDim S4x512x8x100 (![] : Fin 0 → Fin S4x512x8x100.rank)
  bcast_S_S4x512x8x8x100 : S_.BroadcastsInDim S4x512x8x8x100 (![] : Fin 0 → Fin S4x512x8x8x100.rank)
  bcast_S_S100x100 : S_.BroadcastsInDim S100x100 (![] : Fin 0 → Fin S100x100.rank)

variable [Facts]

def fn {F : FTy → Type} [FloatOps F] (main_arg0 : IVec S4x512 32) (main_arg1 : FVec F S4x512x768 .f32) (main_arg2 : FVec F S4x512x8x100 .f32) (main_arg3 : FVec F S4x512x8x100 .f32) (main_arg4 : FVec F S4x512x8x8x100 .f32) (main_arg5 : FVec F S4x512x8x8x100 .f32) (main_arg6 : FVec F S100x100 .f32) (main_arg7 : FVec F S100x100 .f32) (main_arg8 : FVec F S100x768 .f32) (main_arg9 : FVec F S100 .f32) (main_arg10 : FVec F S100x768 .f32) (main_arg11 : FVec F S100 .f32) : IVec S4x512 1 × IVec S4x512x8x100 1 × IVec S4x512x8x8x100 1 × IVec S100x100 1 × IVec S100x100 1 :=
  let main_c : IVec S_ 32 := constantI S_ 32 0#32
  let main_v0 : IVec S4x512 32 := broadcastInDim S4x512 ![] bcast_S_S4x512 main_c
  let main_v1 : IVec S4x512 1 := cmpi .ne main_arg0 main_v0
  let main_v2 : FVec F S4x512x8x100 .f32 := Host.absf main_arg2
  let main_cst : FVec F S_ .f32 := constant S_ .f32 0x7F800000#32
  let main_v3 : FVec F S4x512x8x100 .f32 := broadcastInDim S4x512x8x100 ![] bcast_S_S4x512x8x100 main_cst
  let main_v4 : IVec S4x512x8x100 1 := cmpf .olt main_v2 main_v3
  let main_v5 : FVec F S4x512x8x8x100 .f32 := Host.absf main_arg4
  let main_cst_0 : FVec F S_ .f32 := constant S_ .f32 0x7F800000#32
  let main_v6 : FVec F S4x512x8x8x100 .f32 := broadcastInDim S4x512x8x8x100 ![] bcast_S_S4x512x8x8x100 main_cst_0
  let main_v7 : IVec S4x512x8x8x100 1 := cmpf .olt main_v5 main_v6
  let main_v8 : FVec F S100x100 .f32 := Host.absf main_arg6
  let main_cst_1 : FVec F S_ .f32 := constant S_ .f32 0x7F800000#32
  let main_v9 : FVec F S100x100 .f32 := broadcastInDim S100x100 ![] bcast_S_S100x100 main_cst_1
  let main_v10 : IVec S100x100 1 := cmpf .olt main_v8 main_v9
  let main_v11 : FVec F S100x100 .f32 := Host.absf main_arg7
  let main_cst_2 : FVec F S_ .f32 := constant S_ .f32 0x7F800000#32
  let main_v12 : FVec F S100x100 .f32 := broadcastInDim S100x100 ![] bcast_S_S100x100 main_cst_2
  let main_v13 : IVec S100x100 1 := cmpf .olt main_v11 main_v12
  (main_v1, main_v4, main_v7, main_v10, main_v13)
-- ==== Kernel.lean ====
abbrev S4x512 : Shape := ⟨2, ![4, 512]⟩
abbrev S4x512x768 : Shape := ⟨3, ![4, 512, 768]⟩
abbrev S4x512x8x100 : Shape := ⟨4, ![4, 512, 8, 100]⟩
abbrev S4x512x8x8x100 : Shape := ⟨5, ![4, 512, 8, 8, 100]⟩
abbrev S100x100 : Shape := ⟨2, ![100, 100]⟩
abbrev S100x768 : Shape := ⟨2, ![100, 768]⟩
abbrev S100 : Shape := ⟨1, ![100]⟩
abbrev S4x1x768 : Shape := ⟨3, ![4, 1, 768]⟩
abbrev S4x768 : Shape := ⟨2, ![4, 768]⟩
abbrev S1x100 : Shape := ⟨2, ![1, 100]⟩
abbrev S4x512x200 : Shape := ⟨3, ![4, 512, 200]⟩
abbrev S1x1x768 : Shape := ⟨3, ![1, 1, 768]⟩
abbrev S1x256x8x100 : Shape := ⟨4, ![1, 256, 8, 100]⟩
abbrev S1x256x8x8x100 : Shape := ⟨5, ![1, 256, 8, 8, 100]⟩
abbrev S1x256x200 : Shape := ⟨3, ![1, 256, 200]⟩
abbrev S1x768 : Shape := ⟨2, ![1, 768]⟩
abbrev S100x1 : Shape := ⟨2, ![100, 1]⟩
abbrev S256x8x8x100 : Shape := ⟨4, ![256, 8, 8, 100]⟩
abbrev S16384x100 : Shape := ⟨2, ![16384, 100]⟩
abbrev S2048x8x100 : Shape := ⟨3, ![2048, 8, 100]⟩
abbrev S16384x1 : Shape := ⟨2, ![16384, 1]⟩
abbrev S2048x8x1 : Shape := ⟨3, ![2048, 8, 1]⟩
abbrev S2048x1x8 : Shape := ⟨3, ![2048, 1, 8]⟩
abbrev S2048x8 : Shape := ⟨2, ![2048, 8]⟩
abbrev S2048 : Shape := ⟨1, ![2048]⟩
abbrev S2048x1 : Shape := ⟨2, ![2048, 1]⟩
abbrev S2048x100 : Shape := ⟨2, ![2048, 100]⟩
abbrev S256x8x100 : Shape := ⟨3, ![256, 8, 100]⟩
abbrev S256x8x1 : Shape := ⟨3, ![256, 8, 1]⟩
abbrev S256x1x8 : Shape := ⟨3, ![256, 1, 8]⟩
abbrev S256x8 : Shape := ⟨2, ![256, 8]⟩
abbrev S256 : Shape := ⟨1, ![256]⟩
abbrev S256x1 : Shape := ⟨2, ![256, 1]⟩
abbrev S256x100 : Shape := ⟨2, ![256, 100]⟩
abbrev S256x200 : Shape := ⟨2, ![256, 200]⟩

abbrev nBuf : Space → Nat
  | .hbm => 18
  | .vmem => 18
  | .smem => 0
  | _ => 0

abbrev bufTy : (tb : Table) → Fin (tcTables nBuf tb) → BufTy
  | .hbm, ⟨0, _⟩ => ⟨S4x512, .i32⟩
  | .hbm, ⟨1, _⟩ => ⟨S4x512x768, .f32⟩
  | .hbm, ⟨2, _⟩ => ⟨S4x512x8x100, .f32⟩
  | .hbm, ⟨3, _⟩ => ⟨S4x512x8x100, .f32⟩
  | .hbm, ⟨4, _⟩ => ⟨S4x512x8x8x100, .f32⟩
  | .hbm, ⟨5, _⟩ => ⟨S4x512x8x8x100, .f32⟩
  | .hbm, ⟨6, _⟩ => ⟨S100x100, .f32⟩
  | .hbm, ⟨7, _⟩ => ⟨S100x100, .f32⟩
  | .hbm, ⟨8, _⟩ => ⟨S100x768, .f32⟩
  | .hbm, ⟨9, _⟩ => ⟨S100, .f32⟩
  | .hbm, ⟨10, _⟩ => ⟨S100x768, .f32⟩
  | .hbm, ⟨11, _⟩ => ⟨S100, .f32⟩
  | .hbm, ⟨12, _⟩ => ⟨S4x1x768, .f32⟩
  | .hbm, ⟨13, _⟩ => ⟨S4x768, .f32⟩
  | .hbm, ⟨14, _⟩ => ⟨S4x1x768, .f32⟩
  | .hbm, ⟨15, _⟩ => ⟨S1x100, .f32⟩
  | .hbm, ⟨16, _⟩ => ⟨S1x100, .f32⟩
  | .hbm, ⟨17, _⟩ => ⟨S4x512x200, .f32⟩
  | .local _ .vmem, ⟨0, _⟩ => ⟨S1x1x768, .f32⟩
  | .local _ .vmem, ⟨1, _⟩ => ⟨S1x1x768, .f32⟩
  | .local _ .vmem, ⟨2, _⟩ => ⟨S1x256x8x100, .f32⟩
  | .local _ .vmem, ⟨3, _⟩ => ⟨S1x256x8x100, .f32⟩
  | .local _ .vmem, ⟨4, _⟩ => ⟨S1x256x8x100, .f32⟩
  | .local _ .vmem, ⟨5, _⟩ => ⟨S1x256x8x100, .f32⟩
  | .local _ .vmem, ⟨6, _⟩ => ⟨S1x256x8x8x100, .f32⟩
  | .local _ .vmem, ⟨7, _⟩ => ⟨S1x256x8x8x100, .f32⟩
  | .local _ .vmem, ⟨8, _⟩ => ⟨S1x256x8x8x100, .f32⟩
  | .local _ .vmem, ⟨9, _⟩ => ⟨S1x256x8x8x100, .f32⟩
  | .local _ .vmem, ⟨10, _⟩ => ⟨S100x768, .f32⟩
  | .local _ .vmem, ⟨11, _⟩ => ⟨S100x100, .f32⟩
  | .local _ .vmem, ⟨12, _⟩ => ⟨S1x100, .f32⟩
  | .local _ .vmem, ⟨13, _⟩ => ⟨S100x768, .f32⟩
  | .local _ .vmem, ⟨14, _⟩ => ⟨S100x100, .f32⟩
  | .local _ .vmem, ⟨15, _⟩ => ⟨S1x100, .f32⟩
  | .local _ .vmem, ⟨16, _⟩ => ⟨S1x256x200, .f32⟩
  | .local _ .vmem, ⟨17, _⟩ => ⟨S1x256x200, .f32⟩
  | _, _ => ⟨S4x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x8x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x8x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x8x8x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x8x8x100 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S100x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S100x100 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x100 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S100x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S100x100 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x100 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x200 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S4x512 : Shape := ⟨2, ![4, 512]⟩
abbrev S4x512x768 : Shape := ⟨3, ![4, 512, 768]⟩
abbrev S4x512x8x100 : Shape := ⟨4, ![4, 512, 8, 100]⟩
abbrev S4x512x8x8x100 : Shape := ⟨5, ![4, 512, 8, 8, 100]⟩
abbrev S100x100 : Shape := ⟨2, ![100, 100]⟩
abbrev S100x768 : Shape := ⟨2, ![100, 768]⟩
abbrev S100 : Shape := ⟨1, ![100]⟩
abbrev S4x1x768 : Shape := ⟨3, ![4, 1, 768]⟩
abbrev S4x768 : Shape := ⟨2, ![4, 768]⟩
abbrev S768x100 : Shape := ⟨2, ![768, 100]⟩
abbrev S4x100 : Shape := ⟨2, ![4, 100]⟩
abbrev S1x100 : Shape := ⟨2, ![1, 100]⟩
abbrev S4x1x1x1x100 : Shape := ⟨5, ![4, 1, 1, 1, 100]⟩
abbrev S_ : Shape := ⟨0, ![]⟩
abbrev S4x512x8x8 : Shape := ⟨4, ![4, 512, 8, 8]⟩
abbrev S4x512x8 : Shape := ⟨3, ![4, 512, 8]⟩
abbrev S4x512x8x1 : Shape := ⟨4, ![4, 512, 8, 1]⟩
abbrev S4x512x8x1x8 : Shape := ⟨5, ![4, 512, 8, 1, 8]⟩
abbrev S4x512x8x1x100 : Shape := ⟨5, ![4, 512, 8, 1, 100]⟩
abbrev S4x512x8x200 : Shape := ⟨4, ![4, 512, 8, 200]⟩
abbrev S4x1x1x100 : Shape := ⟨4, ![4, 1, 1, 100]⟩
abbrev S4x512x1 : Shape := ⟨3, ![4, 512, 1]⟩
abbrev S4x512x1x8 : Shape := ⟨4, ![4, 512, 1, 8]⟩
abbrev S4x512x1x200 : Shape := ⟨4, ![4, 512, 1, 200]⟩
abbrev S4x512x200 : Shape := ⟨3, ![4, 512, 200]⟩
abbrev S1 : Shape := ⟨1, ![1]⟩
abbrev S1x1x1 : Shape := ⟨3, ![1, 1, 1]⟩

abbrev nBuf : Space → Nat
  | .hbm => 166
  | .vmem => 0
  | .smem => 0
  | _ => 0

abbrev hbmTy0_0 (i : Nat) : BufTy := match i % 128 with
  | 0 => ⟨S4x512, .i32⟩
  | 1 => ⟨S4x512x768, .f32⟩
  | 2 => ⟨S4x512x8x100, .f32⟩
  | 3 => ⟨S4x512x8x100, .f32⟩
  | 4 => ⟨S4x512x8x8x100, .f32⟩
  | 5 => ⟨S4x512x8x8x100, .f32⟩
  | 6 => ⟨S100x100, .f32⟩
  | 7 => ⟨S100x100, .f32⟩
  | 8 => ⟨S100x768, .f32⟩
  | 9 => ⟨S100, .f32⟩
  | 10 => ⟨S100x768, .f32⟩
  | 11 => ⟨S100, .f32⟩
  | 12 => ⟨S4x1x768, .f32⟩
  | 13 => ⟨S4x768, .f32⟩
  | 14 => ⟨S768x100, .f32⟩
  | 15 => ⟨S4x100, .f32⟩
  | 16 => ⟨S1x100, .f32⟩
  | 17 => ⟨S4x100, .f32⟩
  | 18 => ⟨S4x100, .f32⟩
  | 19 => ⟨S4x100, .f32⟩
  | 20 => ⟨S4x1x1x1x100, .f32⟩
  | 21 => ⟨S100x100, .f32⟩
  | 22 => ⟨S4x512x8x8x100, .f32⟩
  | 23 => ⟨S4x512x8x8x100, .f32⟩
  | 24 => ⟨S4x512x8x8x100, .f32⟩
  | 25 => ⟨S_, .f32⟩
  | 26 => ⟨S4x512x8x8, .f32⟩
  | 27 => ⟨S_, .f32⟩
  | 28 => ⟨S4x512x8x8, .f32⟩
  | 29 => ⟨S4x512x8x8, .f32⟩
  | 30 => ⟨S_, .f32⟩
  | 31 => ⟨S4x512x8x8, .f32⟩
  | 32 => ⟨S4x512x8x8, .i1⟩
  | 33 => ⟨S_, .f32⟩
  | 34 => ⟨S_, .f32⟩
  | 35 => ⟨S4x512x8x8, .f32⟩
  | 36 => ⟨S4x512x8x8, .f32⟩
  | 37 => ⟨S_, .f32⟩
  | 38 => ⟨S4x512x8x8, .f32⟩
  | 39 => ⟨S4x512x8x8, .i1⟩
  | 40 => ⟨S_, .f32⟩
  | 41 => ⟨S4x512x8x8, .f32⟩
  | 42 => ⟨S4x512x8x8, .f32⟩
  | 43 => ⟨S4x512x8x8, .f32⟩
  | 44 => ⟨S_, .f32⟩
  | 45 => ⟨S4x512x8, .f32⟩
  | 46 => ⟨S_, .f32⟩
  | 47 => ⟨S4x512x8, .f32⟩
  | 48 => ⟨S4x512x8, .f32⟩
  | 49 => ⟨S4x512x8x1, .f32⟩
  | 50 => ⟨S4x512x8x8, .f32⟩
  | 51 => ⟨S4x512x8x8, .f32⟩
  | 52 => ⟨S4x512x8x8, .f32⟩
  | 53 => ⟨S_, .f32⟩
  | 54 => ⟨S4x512x8, .f32⟩
  | 55 => ⟨S4x512x8x1, .f32⟩
  | 56 => ⟨S4x512x8x8, .f32⟩
  | 57 => ⟨S4x512x8x8, .f32⟩
  | 58 => ⟨S_, .f32⟩
  | 59 => ⟨S4x512x8x8, .f32⟩
  | 60 => ⟨S4x512x8x8, .i1⟩
  | 61 => ⟨S_, .f32⟩
  | 62 => ⟨S_, .f32⟩
  | 63 => ⟨S4x512x8x8, .f32⟩
  | 64 => ⟨S4x512x8x8, .f32⟩
  | 65 => ⟨S4x512x8x1x8, .f32⟩
  | 66 => ⟨S4x512x8x1x100, .f32⟩
  | 67 => ⟨S4x512x8x100, .f32⟩
  | 68 => ⟨S4x512x8x200, .f32⟩
  | 69 => ⟨S768x100, .f32⟩
  | 70 => ⟨S4x100, .f32⟩
  | 71 => ⟨S1x100, .f32⟩
  | 72 => ⟨S4x100, .f32⟩
  | 73 => ⟨S4x100, .f32⟩
  | 74 => ⟨S4x100, .f32⟩
  | 75 => ⟨S4x1x1x100, .f32⟩
  | 76 => ⟨S100x100, .f32⟩
  | 77 => ⟨S4x512x8x100, .f32⟩
  | 78 => ⟨S4x512x8x100, .f32⟩
  | 79 => ⟨S4x512x8x100, .f32⟩
  | 80 => ⟨S_, .f32⟩
  | 81 => ⟨S4x512x8, .f32⟩
  | 82 => ⟨S_, .f32⟩
  | 83 => ⟨S4x512x8, .f32⟩
  | 84 => ⟨S4x512x8, .f32⟩
  | 85 => ⟨S_, .f32⟩
  | 86 => ⟨S4x512x8, .f32⟩
  | 87 => ⟨S4x512x8, .i1⟩
  | 88 => ⟨S_, .f32⟩
  | 89 => ⟨S_, .f32⟩
  | 90 => ⟨S4x512x8, .f32⟩
  | 91 => ⟨S4x512x8, .f32⟩
  | 92 => ⟨S_, .f32⟩
  | 93 => ⟨S4x512x8, .f32⟩
  | 94 => ⟨S4x512x8, .i1⟩
  | 95 => ⟨S_, .f32⟩
  | 96 => ⟨S4x512x8, .f32⟩
  | 97 => ⟨S4x512x8, .f32⟩
  | 98 => ⟨S4x512x8, .f32⟩
  | 99 => ⟨S_, .f32⟩
  | 100 => ⟨S4x512, .f32⟩
  | 101 => ⟨S_, .f32⟩
  | 102 => ⟨S4x512, .f32⟩
  | 103 => ⟨S4x512, .f32⟩
  | 104 => ⟨S4x512x1, .f32⟩
  | 105 => ⟨S4x512x8, .f32⟩
  | 106 => ⟨S4x512x8, .f32⟩
  | 107 => ⟨S4x512x8, .f32⟩
  | 108 => ⟨S_, .f32⟩
  | 109 => ⟨S4x512, .f32⟩
  | 110 => ⟨S4x512x1, .f32⟩
  | 111 => ⟨S4x512x8, .f32⟩
  | 112 => ⟨S4x512x8, .f32⟩
  | 113 => ⟨S_, .f32⟩
  | 114 => ⟨S4x512x8, .f32⟩
  | 115 => ⟨S4x512x8, .i1⟩
  | 116 => ⟨S_, .f32⟩
  | 117 => ⟨S_, .f32⟩
  | 118 => ⟨S4x512x8, .f32⟩
  | 119 => ⟨S4x512x8, .f32⟩
  | 120 => ⟨S4x512x1x8, .f32⟩
  | 121 => ⟨S4x512x1x200, .f32⟩
  | 122 => ⟨S4x512x200, .f32⟩
  | 123 => ⟨S_, .i32⟩
  | 124 => ⟨S4x512, .i32⟩
  | 125 => ⟨S4x512, .i1⟩
  | 126 => ⟨S4x512, .i32⟩
  | 127 => ⟨S_, .i32⟩
  | _ => ⟨S4x512, .i32⟩

abbrev hbmTy0_1 (i : Nat) : BufTy := match i % 128 with
  | 0 => ⟨S_, .i32⟩
  | 1 => ⟨S4x512, .i32⟩
  | 2 => ⟨S_, .i32⟩
  | 3 => ⟨S4x512, .i32⟩
  | 4 => ⟨S4x512, .i32⟩
  | 5 => ⟨S_, .i32⟩
  | 6 => ⟨S_, .i32⟩
  | 7 => ⟨S4x512, .i32⟩
  | 8 => ⟨S4x512, .i32⟩
  | 9 => ⟨S4x512x1, .i32⟩
  | 10 => ⟨S_, .i32⟩
  | 11 => ⟨S4x512x1, .i32⟩
  | 12 => ⟨S4x512x1, .i1⟩
  | 13 => ⟨S_, .i32⟩
  | 14 => ⟨S4x512x1, .i32⟩
  | 15 => ⟨S4x512x1, .i32⟩
  | 16 => ⟨S4x512x1, .i32⟩
  | 17 => ⟨S1, .i32⟩
  | 18 => ⟨S_, .i32⟩
  | 19 => ⟨S4x512x1, .i32⟩
  | 20 => ⟨S4x512x1, .i1⟩
  | 21 => ⟨S1x1x1, .i32⟩
  | 22 => ⟨S4x512x1, .i32⟩
  | 23 => ⟨S4x512x1, .i1⟩
  | 24 => ⟨S4x512x1, .i1⟩
  | 25 => ⟨S_, .i1⟩
  | 26 => ⟨S4x512, .i1⟩
  | 27 => ⟨S4x512x200, .f32⟩
  | 28 => ⟨S4x512x200, .i1⟩
  | 29 => ⟨S_, .f32⟩
  | 30 => ⟨S4x512x200, .f32⟩
  | 31 => ⟨S4x512x200, .f32⟩
  | 32 => ⟨S4x512x1, .i1⟩
  | 33 => ⟨S_, .f32⟩
  | 34 => ⟨S_, .f32⟩
  | 35 => ⟨S4x512x200, .i1⟩
  | 36 => ⟨S4x512x200, .f32⟩
  | 37 => ⟨S4x512x200, .f32⟩
  | _ => ⟨S4x512, .i32⟩

abbrev hbmTy (i : Nat) : BufTy := match i / 128 with
  | 0 => hbmTy0_0 i
  | 1 => hbmTy0_1 i
  | _ => ⟨S4x512, .i32⟩

abbrev bufTy : (tb : Table) → Fin (tcTables nBuf tb) → BufTy
  | .hbm, ⟨i, _⟩ => hbmTy i
  | _, _ => ⟨S4x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v18 : Ref sig .tc := ⟨.hbm, 36, rfl⟩
abbrev main_call1_cst : Ref sig .tc := ⟨.hbm, 37, rfl⟩
abbrev main_call1_v0 : Ref sig .tc := ⟨.hbm, 38, rfl⟩
abbrev main_call1_v1 : Ref sig .tc := ⟨.hbm, 39, rfl⟩
abbrev main_call1_cst_0 : Ref sig .tc := ⟨.hbm, 40, rfl⟩
abbrev main_call1_v2 : Ref sig .tc := ⟨.hbm, 41, rfl⟩
abbrev main_call1_v3 : Ref sig .tc := ⟨.hbm, 42, rfl⟩
abbrev main_v19 : Ref sig .tc := ⟨.hbm, 43, rfl⟩
abbrev main_cst_3 : Ref sig .tc := ⟨.hbm, 44, rfl⟩
abbrev main_v20 : Ref sig .tc := ⟨.hbm, 45, rfl⟩
abbrev main_cst_4 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_5 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_6 : Ref sig .tc := ⟨.hbm, 58, rfl⟩
abbrev main_v31 : Ref sig .tc := ⟨.hbm, 59, rfl⟩
abbrev main_v32 : Ref sig .tc := ⟨.hbm, 60, rfl⟩
abbrev main_cst_7 : Ref sig .tc := ⟨.hbm, 61, rfl⟩
abbrev main_call2_v0 : Ref sig .tc := ⟨.hbm, 62, rfl⟩
abbrev main_call2_v1 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_8 : Ref sig .tc := ⟨.hbm, 80, rfl⟩
abbrev main_v49 : Ref sig .tc := ⟨.hbm, 81, rfl⟩
abbrev main_cst_9 : Ref sig .tc := ⟨.hbm, 82, rfl⟩
abbrev main_v50 : Ref sig .tc := ⟨.hbm, 83, rfl⟩
abbrev main_v51 : Ref sig .tc := ⟨.hbm, 84, rfl⟩
abbrev main_cst_10 : Ref sig .tc := ⟨.hbm, 85, rfl⟩
abbrev main_v52 : Ref sig .tc := ⟨.hbm, 86, rfl⟩
abbrev main_v53 : Ref sig .tc := ⟨.hbm, 87, rfl⟩
abbrev main_cst_11 : Ref sig .tc := ⟨.hbm, 88, rfl⟩
abbrev main_call3_v0 : Ref sig .tc := ⟨.hbm, 89, rfl⟩
abbrev main_call3_v1 : Ref sig .tc := ⟨.hbm, 90, rfl⟩
abbrev main_v54 : Ref sig .tc := ⟨.hbm, 91, rfl⟩
abbrev main_call4_cst : Ref sig .tc := ⟨.hbm, 92, rfl⟩
abbrev main_call4_v0 : Ref sig .tc := ⟨.hbm, 93, rfl⟩
abbrev main_call4_v1 : Ref sig .tc := ⟨.hbm, 94, rfl⟩
abbrev main_call4_cst_0 : Ref sig .tc := ⟨.hbm, 95, rfl⟩
abbrev main_call4_v2 : Ref sig .tc := ⟨.hbm, 96, rfl⟩
abbrev main_call4_v3 : Ref sig .tc := ⟨.hbm, 97, rfl⟩
abbrev main_v55 : Ref sig .tc := ⟨.hbm, 98, rfl⟩
abbrev main_cst_12 : Ref sig .tc := ⟨.hbm, 99, rfl⟩
abbrev main_v56 : Ref sig .tc := ⟨.hbm, 100, rfl⟩
abbrev main_cst_13 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_cst_14 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_cst_15 : Ref sig .tc := ⟨.hbm, 113, rfl⟩
abbrev main_v67 : Ref sig .tc := ⟨.hbm, 114, rfl⟩
abbrev main_v68 : Ref sig .tc := ⟨.hbm, 115, rfl⟩
abbrev main_cst_16 : Ref sig .tc := ⟨.hbm, 116, rfl⟩
abbrev main_call5_v0 : Ref sig .tc := ⟨.hbm, 117, rfl⟩
abbrev main_call5_v1 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_c : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_call6_call0_c : Ref sig .tc := ⟨.hbm, 127, rfl⟩
abbrev main_call6_call0_v0 : Ref sig .tc := ⟨.hbm, 128, rfl⟩
abbrev main_v76 : Ref sig .tc := ⟨.hbm, 129, rfl⟩
abbrev main_c_17 : Ref sig .tc := ⟨.hbm, 130, rfl⟩
abbrev main_v77 : Ref sig .tc := ⟨.hbm, 131, rfl⟩
abbrev main_v78 : Ref sig .tc := ⟨.hbm, 132, rfl⟩
abbrev main_c_18 : Ref sig .tc := ⟨.hbm, 133, rfl⟩
abbrev main_call7_v0 : Ref sig .tc := ⟨.hbm, 134, rfl⟩
abbrev main_call7_v1 : Ref sig .tc := ⟨.hbm, 135, rfl⟩
abbrev main_v79 : Ref sig .tc := ⟨.hbm, 136, rfl⟩
abbrev main_v80 : Ref sig .tc := ⟨.hbm, 137, rfl⟩
abbrev main_call8_c : Ref sig .tc := ⟨.hbm, 138, rfl⟩
abbrev main_call8_v0 : Ref sig .tc := ⟨.hbm, 139, rfl⟩
abbrev main_call8_v1 : Ref sig .tc := ⟨.hbm, 140, rfl⟩
abbrev main_call8_c_0 : Ref sig .tc := ⟨.hbm, 141, rfl⟩
abbrev main_call8_v2 : Ref sig .tc := ⟨.hbm, 142, rfl⟩
abbrev main_call8_v3 : Ref sig .tc := ⟨.hbm, 143, rfl⟩
abbrev main_call8_v4 : Ref sig .tc := ⟨.hbm, 144, rfl⟩
abbrev main_call8_c_1 : Ref sig .tc := ⟨.hbm, 145, rfl⟩
abbrev main_call8_c_2 : Ref sig .tc := ⟨.hbm, 146, rfl⟩
abbrev main_call8_v5 : Ref sig .tc := ⟨.hbm, 147, rfl⟩
abbrev main_call8_v6 : Ref sig .tc := ⟨.hbm, 148, rfl⟩
abbrev main_call8_v7 : Ref sig .tc := ⟨.hbm, 149, rfl⟩
abbrev main_call8_v8 : Ref sig .tc := ⟨.hbm, 150, rfl⟩
abbrev main_call8_v9 : Ref sig .tc := ⟨.hbm, 151, rfl⟩
abbrev main_call8_v10 : Ref sig .tc := ⟨.hbm, 152, rfl⟩
abbrev main_call8_c_3 : Ref sig .tc := ⟨.hbm, 153, rfl⟩
abbrev main_call8_v11 : Ref sig .tc := ⟨.hbm, 154, rfl⟩
abbrev main_call8_v12 : Ref sig .tc := ⟨.hbm, 155, rfl⟩
abbrev main_call8_v13 : Ref sig .tc := ⟨.hbm, 156, rfl⟩
abbrev main_call8_cst : Ref sig .tc := ⟨.hbm, 157, rfl⟩
abbrev main_call8_v14 : Ref sig .tc := ⟨.hbm, 158, rfl⟩
abbrev main_v81 : Ref sig .tc := ⟨.hbm, 159, rfl⟩
abbrev main_v82 : Ref sig .tc := ⟨.hbm, 160, rfl⟩
abbrev main_cst_19 : Ref sig .tc := ⟨.hbm, 161, rfl⟩
abbrev main_call9_v0 : Ref sig .tc := ⟨.hbm, 162, rfl⟩
abbrev main_call9_v1 : Ref sig .tc := ⟨.hbm, 163, rfl⟩
abbrev main_call9_v2 : Ref sig .tc := ⟨.hbm, 164, rfl⟩
abbrev main_v83 : Ref sig .tc := ⟨.hbm, 165, rfl⟩

abbrev nD : Nat := 1
abbrev τ : Topo := Topo.v7x

variable {F : FTy → Type} [FloatOps F]
-- ==== Proof.Spec.lean ====
/- The mathematics, over the extended reals and with no program in sight: one query, the score of a key under it, the
   attention weights of eight scores, the weighted mean of eight values, and the two-hop attention built of them as one
   function of the twelve arguments (without the entity list). The function is stated over the score, because the score is the
   one thing in which the kernel and the reference differ: the kernel folds the key projection into the query, the reference
   projects the keys. `score_swap` says the two are equal where the key and the projection are finite. -/
module

public import Idealize.ShloMosaic.Lib.Pointwise

@[expose] public section

set_option maxRecDepth 16384

noncomputable section

open Idealize.ShloMosaic

namespace Cert.Att

/-! ## Attention weights of eight scores -/

/-- A score of exactly zero is read as −10000. -/
def marked (s : EReal) : EReal := if s = 0 then Ideal.ofBits .f32 0xC61C4000#32 else s

/-- The leaky rectifier on a marked score: a negative one is multiplied by the f32 literal 0.01. -/
def leaky (s : EReal) : EReal := if 0 ≤ marked s then marked s else Ideal.ofBits .f32 0x3C23D70A#32 * marked s

/-- The largest of the eight rectified scores, from −∞. -/
def top (s : Fin 8 → EReal) : EReal := Finset.univ.fold max (Ideal.ofBits .f32 0xFF800000#32) fun n => leaky (s n)

/-- The exponential of a rectified score less the largest. -/
def expo (s : Fin 8 → EReal) (n : Fin 8) : EReal := Ideal.exp (leaky (s n) - top s)

/-- The softmax of the eight rectified scores. -/
def soft (s : Fin 8 → EReal) (n : Fin 8) : EReal := Ideal.div (expo s n) (∑ i, expo s i)

/-- The attention weight: the softmax, but 0 where it is exactly 1/8. -/
def weight (s : Fin 8 → EReal) (n : Fin 8) : EReal :=
  if soft s n = Ideal.ofBits .f32 0x3E000000#32 then 0 else soft s n

/-- The weighted sum of eight values under the attention weights of eight scores. -/
def mix (v s : Fin 8 → EReal) : EReal := ∑ n, v n * weight s n

/-! ## Queries and scores -/

/-- A query: entry `c` is the hyperbolic tangent of the linear map of the state. -/
def query (q : Fin 768 → EReal) (W : Fin 100 → Fin 768 → EReal) (b : Fin 100 → EReal) (c : Fin 100) : EReal :=
  Ideal.tanh (∑ x, q x * W c x + b c)

/-- The kernel's score of a key `k`: the key against the query folded through the projection, over 10. -/
def foldedScore (k : Fin 100 → EReal) (W : Fin 100 → Fin 100 → EReal) (Q : Fin 100 → EReal) : EReal :=
  Ideal.div (∑ j, k j * ∑ c, W c j * Q c) (Ideal.ofBits .f32 0x41200000#32)

/-- The reference's score of a key `k`: the query against the projected key, over 10. -/
def projectedScore (k : Fin 100 → EReal) (W : Fin 100 → Fin 100 → EReal) (Q : Fin 100 → EReal) : EReal :=
  Ideal.div (∑ c, Q c * ∑ j, k j * W c j) (Ideal.ofBits .f32 0x41200000#32)

/-- A number that is neither infinity. -/
def IsFinite (x : EReal) : Prop := x ≠ ⊥ ∧ x ≠ ⊤

/-- A hyperbolic tangent is a real number, whatever its argument. -/
theorem tanh_real (x : EReal) : Ideal.tanh x = ((Ideal.tanh x).toReal : EReal) := by
  induction x using EReal.rec with
  | bot => rfl
  | coe r => rfl
  | top => rfl

/-- The coercion of the reals into the extended reals, as a map of sums. -/
theorem coe_sum {n : Nat} (f : Fin n → ℝ) : ((∑ i, f i : ℝ) : EReal) = ∑ i, (f i : EReal) :=
  map_sum (⟨⟨Real.toEReal, rfl⟩, fun _ _ => rfl⟩ : ℝ →+ EReal) f Finset.univ

/-- The two scores are equal where the key, the projection and the query are finite: all is real, and the two sums are swapped. -/
theorem score_swap (k : Fin 100 → EReal) (W : Fin 100 → Fin 100 → EReal) (Q : Fin 100 → EReal)
    (hk : ∀ j, IsFinite (k j)) (hW : ∀ c j, IsFinite (W c j)) (hQ : ∀ c, Q c = ((Q c).toReal : EReal)) :
    foldedScore k W Q = projectedScore k W Q := by
  have ek : k = fun j => ((k j).toReal : EReal) := funext fun j => (EReal.coe_toReal (hk j).2 (hk j).1).symm
  have eW : W = fun c j => ((W c j).toReal : EReal) := funext fun c => funext fun j => (EReal.coe_toReal (hW c j).2 (hW c j).1).symm
  have eQ : Q = fun c => ((Q c).toReal : EReal) := funext hQ
  rw [ek, eW, eQ]
  unfold foldedScore projectedScore
  simp only [← EReal.coe_mul, ← coe_sum]
  congr 2
  simp only [Finset.mul_sum]
  rw [Finset.sum_comm]
  exact Finset.sum_congr rfl fun c _ => Finset.sum_congr rfl fun j _ => by ring

/-! ## The two hops -/

/-- A score of a key under a projection and a query. -/
abbrev Score := (Fin 100 → EReal) → (Fin 100 → Fin 100 → EReal) → (Fin 100 → EReal) → EReal

/-- The query of batch entry `b`: from the first position's state. -/
def queryAt (q : Vec Ideal ⟨3, ![4, 512, 768]⟩ .f32) (W : Vec Ideal ⟨2, ![100, 768]⟩ .f32) (bias : Vec Ideal ⟨1, ![100]⟩ .f32)
    (b : Fin 4) : Fin 100 → EReal :=
  query (fun x => q (ix3 b 0 x)) (fun c x => W (ix2 c x)) fun c => bias (ix1 c)

/-- The eight first-hop scores at batch entry `b`, position `e`. -/
def near (σ : Score) (q : Vec Ideal ⟨3, ![4, 512, 768]⟩ .f32) (k : Vec Ideal ⟨4, ![4, 512, 8, 100]⟩ .f32) (Wkv : Vec Ideal ⟨2, ![100, 100]⟩ .f32)
    (Wq : Vec Ideal ⟨2, ![100, 768]⟩ .f32) (bq : Vec Ideal ⟨1, ![100]⟩ .f32) (b : Fin 4) (e : Fin 512) (n : Fin 8) : EReal :=
  σ (fun j => k (ix4 b e n j)) (fun c j => Wkv (ix2 c j)) (queryAt q Wq bq b)

/-- The eight second-hop scores at batch entry `b`, position `e`, neighbour `n`. -/
def far (σ : Score) (q : Vec Ideal ⟨3, ![4, 512, 768]⟩ .f32) (k : Vec Ideal ⟨5, ![4, 512, 8, 8, 100]⟩ .f32) (Wkv : Vec Ideal ⟨2, ![100, 100]⟩ .f32)
    (Wq : Vec Ideal ⟨2, ![100, 768]⟩ .f32) (bq : Vec Ideal ⟨1, ![100]⟩ .f32) (b : Fin 4) (e : Fin 512) (n n' : Fin 8) : EReal :=
  σ (fun j => k (ix5 b e n n' j)) (fun c j => Wkv (ix2 c j)) (queryAt q Wq bq b)

/-- Two-hop attention: at batch entry `b`, position `e`, the first hundred columns hold the mixed first-hop values, the other
    hundred the first-hop mix of the second hop's mixed values. -/
def att (σ : Score) (q : Vec Ideal ⟨3, ![4, 512, 768]⟩ .f32) (k1 v1 : Vec Ideal ⟨4, ![4, 512, 8, 100]⟩ .f32)
    (k2 v2 : Vec Ideal ⟨5, ![4, 512, 8, 8, 100]⟩ .f32) (Wkv1 Wkv2 : Vec Ideal ⟨2, ![100, 100]⟩ .f32)
    (Wq1 : Vec Ideal ⟨2, ![100, 768]⟩ .f32) (bq1 : Vec Ideal ⟨1, ![100]⟩ .f32) (Wq2 : Vec Ideal ⟨2, ![100, 768]⟩ .f32) (bq2 : Vec Ideal ⟨1, ![100]⟩ .f32)
    (b : Fin 4) (e : Fin 512) (d : Fin 200) : EReal :=
  if h : d.val < 100 then mix (fun n => v1 (ix4 b e n ⟨d.val, h⟩)) (near σ q k1 Wkv1 Wq1 bq1 b e)
  else mix (fun n => mix (fun n' => v2 (ix5 b e n n' ⟨d.val - 100, by omega⟩)) (far σ q k2 Wkv2 Wq2 bq2 b e n))
    (near σ q k1 Wkv1 Wq1 bq1 b e)

/-- With finite keys and projections, two-hop attention is the same under either score. -/
theorem att_swap (q : Vec Ideal ⟨3, ![4, 512, 768]⟩ .f32) (k1 v1 : Vec Ideal ⟨4, ![4, 512, 8, 100]⟩ .f32)
    (k2 v2 : Vec Ideal ⟨5, ![4, 512, 8, 8, 100]⟩ .f32) (Wkv1 Wkv2 : Vec Ideal ⟨2, ![100, 100]⟩ .f32)
    (Wq1 : Vec Ideal ⟨2, ![100, 768]⟩ .f32) (bq1 : Vec Ideal ⟨1, ![100]⟩ .f32) (Wq2 : Vec Ideal ⟨2, ![100, 768]⟩ .f32) (bq2 : Vec Ideal ⟨1, ![100]⟩ .f32)
    (hk1 : ∀ i, IsFinite (k1 i)) (hk2 : ∀ i, IsFinite (k2 i)) (hW1 : ∀ i, IsFinite (Wkv1 i)) (hW2 : ∀ i, IsFinite (Wkv2 i))
    (b : Fin 4) (e : Fin 512) (d : Fin 200) :
    att foldedScore q k1 v1 k2 v2 Wkv1 Wkv2 Wq1 bq1 Wq2 bq2 b e d = att projectedScore q k1 v1 k2 v2 Wkv1 Wkv2 Wq1 bq1 Wq2 bq2 b e d := by
  have e1 : near foldedScore q k1 Wkv1 Wq1 bq1 b e = near projectedScore q k1 Wkv1 Wq1 bq1 b e := funext fun n =>
    score_swap _ _ _ (fun _ => hk1 _) (fun _ _ => hW1 _) fun _ => tanh_real _
  have e2 : ∀ n, far foldedScore q k2 Wkv2 Wq2 bq2 b e n = far projectedScore q k2 Wkv2 Wq2 bq2 b e n := fun n => funext fun n' =>
    score_swap _ _ _ (fun _ => hk2 _) (fun _ _ => hW2 _) fun _ => tanh_real _
  unfold att
  simp only [e1, e2]

end Cert.Att

end
-- ==== Proof.Pre.lean ====
/- The precondition, read as facts about the arguments: no entity index is zero, and the keys and the two key matrices are finite. -/
module

public import proofs.«01_k».proof.Defs
public import proofs.«01_k».proof.Proof.Spec
public import Idealize.ShloMosaic.Lib.WordCmp

@[expose] public section

set_option maxRecDepth 16384

noncomputable section

open Idealize.ShloMosaic Idealize.ShloMosaic.TcCoe

namespace Cert.Pre_in_range

/-- The broadcasts of the precondition's constants are of the shapes that they say. -/
instance facts : Facts where
  bcast_S_S4x512 := by decide
  bcast_S_S4x512x8x100 := by decide
  bcast_S_S4x512x8x8x100 := by decide
  bcast_S_S100x100 := by decide

end Cert.Pre_in_range

namespace Cert.Att.Pre

/-- A comparison "not equal to zero" that holds: the word is not zero. -/
theorem ne_of_cmpi {w : BitVec 32} (h : IntOp.cmpi .ne w 0#32 = 1#1) : w ≠ 0#32 := by
  rintro rfl
  exact absurd h (by decide)

/-- A number whose absolute value is below infinity is finite. -/
theorem finite_of_olt {x : Ideal .f32} (h : Ideal.cmp .olt (max x (-x)) (Ideal.ofBits .f32 0x7F800000#32) = 1#1) : IsFinite x := by
  have top : Ideal.ofBits .f32 0x7F800000#32 = ⊤ := by simp [Ideal.ofBits, Ideal.ieee]
  rw [top] at h
  constructor
  · rintro rfl
    exact absurd h (by simp [Ideal.cmp])
  · rintro rfl
    exact absurd h (by simp [Ideal.cmp])

variable (m : (ℓ : Loc Cert.KernelIdeal.nD Cert.KernelIdeal.τ Cert.KernelIdeal.sig) → Buf (Elt Ideal) ℓ) (c : Dev Cert.KernelIdeal.nD)

/-- Under the precondition no entity index is zero. -/
theorem ent (h : Pre_KernelIdeal_in_range m) (i : (⟨2, ![4, 512]⟩ : Shape).Idx) :
    (m (c.tc.loc Cert.KernelIdeal.main_arg0) : IVec ⟨2, ![4, 512]⟩ 32) i ≠ 0#32 :=
  ne_of_cmpi (congrFun (h c).1 i)

/-- Under the precondition the first hop's keys are finite. -/
theorem keys1 (h : Pre_KernelIdeal_in_range m) (i : (⟨4, ![4, 512, 8, 100]⟩ : Shape).Idx) :
    IsFinite ((m (c.tc.loc Cert.KernelIdeal.main_arg2) : Vec Ideal ⟨4, ![4, 512, 8, 100]⟩ .f32) i) :=
  finite_of_olt (congrFun (h c).2.1 i)

/-- Under the precondition the second hop's keys are finite. -/
theorem keys2 (h : Pre_KernelIdeal_in_range m) (i : (⟨5, ![4, 512, 8, 8, 100]⟩ : Shape).Idx) :
    IsFinite ((m (c.tc.loc Cert.KernelIdeal.main_arg4) : Vec Ideal ⟨5, ![4, 512, 8, 8, 100]⟩ .f32) i) :=
  finite_of_olt (congrFun (h c).2.2.1 i)

/-- Under the precondition the first hop's key matrix is finite. -/
theorem matrix1 (h : Pre_KernelIdeal_in_range m) (i : (⟨2, ![100, 100]⟩ : Shape).Idx) :
    IsFinite ((m (c.tc.loc Cert.KernelIdeal.main_arg6) : Vec Ideal ⟨2, ![100, 100]⟩ .f32) i) :=
  finite_of_olt (congrFun (h c).2.2.2.1 i)

/-- Under the precondition the second hop's key matrix is finite. -/
theorem matrix2 (h : Pre_KernelIdeal_in_range m) (i : (⟨2, ![100, 100]⟩ : Shape).Idx) :
    IsFinite ((m (c.tc.loc Cert.KernelIdeal.main_arg7) : Vec Ideal ⟨2, ![100, 100]⟩ .f32) i) :=
  finite_of_olt (congrFun (h c).2.2.2.2 i)

end Cert.Att.Pre

end
-- ==== Proof.Block.lean ====
/- What one block computes: each value the body names, read at an index, and their composition. -/
module

public import proofs.«01_k».proof.Proof.Spec
public import proofs.«01_k».proof.Proof.Gen.KernelIdeal.Value
public import Idealize.ShloMosaic.Lib.Pointwise

@[expose] public section

set_option maxRecDepth 16384

noncomputable section

open Idealize.ShloMosaic Idealize.ShloMosaic.TcCoe

namespace Cert.Att.Block

open Cert.KernelIdeal Cert.KernelIdeal.Gen

/-- The first hop's folded query, column `j`: the projection's column against the query. -/
theorem folded1 (q : Vec Ideal S1x1x768 .f32) (W : Vec Ideal S100x768 .f32) (b : Vec Ideal S1x100 .f32) (Wkv : Vec Ideal S100x100 .f32) (j : Fin 100) :
    k0_pay3 q W b Wkv (ix2 j 0) = ∑ c, Wkv (ix2 c j) * query (fun x => q (ix3 0 0 x)) (fun c x => W (ix2 c x)) (fun c => b (ix2 0 c)) c := by
  pointwise [k0_pay3, k0_pay2, query]

/-- The second hop's scores: row `r` of the flattened keys. -/
theorem scores2 (q : Vec Ideal S1x1x768 .f32) (W : Vec Ideal S100x768 .f32) (b : Vec Ideal S1x100 .f32) (Wkv : Vec Ideal S100x100 .f32)
    (k : Vec Ideal S1x256x8x8x100 .f32) (r : Fin 16384) :
    k0_pay5 q W b Wkv k (ix2 r 0) = foldedScore (fun j => k (ix5 0 ⟨r.val / 64, by omega⟩ ⟨r.val / 8 % 8, by omega⟩ ⟨r.val % 8, by omega⟩ j))
      (fun c j => Wkv (ix2 c j)) (query (fun x => q (ix3 0 0 x)) (fun c x => W (ix2 c x)) fun c => b (ix2 0 c)) := by
  pointwise [k0_pay5, k0_pay2, query, foldedScore]

/-- The first hop's scores. -/
theorem scores1 (f : FVec Ideal S100x1 .f32) (k : Vec Ideal S1x256x8x100 .f32) (e : Fin 256) (n : Fin 8) :
    k0_pay8 f k (ix2 e n) = Ideal.div (∑ j, k (ix4 0 e n j) * f (ix2 j 0)) (Ideal.ofBits .f32 0x41200000#32) := by
  pointwise [k0_pay8]

/-- The second hop's mixed values, row `r` of the flattened neighbours. -/
theorem mixed2 (v : FVec Ideal S2048x8x100 .f32) (s : FVec Ideal S16384x1 .f32) (r : Fin 2048) (d : Fin 100) :
    k0_pay6 v s (ix2 r d) = mix (fun n => v (ix3 r n d)) fun n => s (ix2 ⟨r.val * 8 + n.val, by omega⟩ 0) := by
  pointwise [k0_pay6, mix, weight, soft, expo, top, leaky, marked]

/-- The attention weights of a block's first-hop scores, as the body spells them. -/
def weights1 (s : FVec Ideal S256x8 .f32) : FVec Ideal S256x8 .f32 :=
  let a := select (cmpf .oeq s (broadcast S256x8 (Scalar.ofBits .f32 0x00000000#32))) (broadcast S256x8 (Scalar.ofBits .f32 0xC61C4000#32)) s
  let l := select (cmpf .oge a (broadcast S256x8 (Scalar.ofBits .f32 0x00000000#32))) a (mulf (broadcast S256x8 (Scalar.ofBits .f32 0x3C23D70A#32)) a)
  let x := exp (subf l (broadcastTo S256x8 (shapeCast S256x1 (multiReduction .maximumf [1] S256 l 0xFF800000#32 reduces_S256x8_S256 (.inl rfl) rfl)
    shapeCasts_S256_S256x1) broadcasts_S256x1_S256x8))
  let p := divf x (broadcastTo S256x8 (shapeCast S256x1 (multiReduction .add [1] S256 x 0x00000000#32 reduces_S256x8_S256 (.inl rfl) rfl)
    shapeCasts_S256_S256x1) broadcasts_S256x1_S256x8)
  select (cmpf .oeq p (broadcast S256x8 (Scalar.ofBits .f32 0x3E000000#32))) (broadcast S256x8 (Scalar.ofBits .f32 0x00000000#32)) p

theorem weights1_apply (s : FVec Ideal S256x8 .f32) (e : Fin 256) (n : Fin 8) : weights1 s (ix2 e n) = weight (fun n => s (ix2 e n)) n := by
  pointwise [weights1, weight, soft, expo, top, leaky, marked]

/-- The two mixes side by side, under weights already computed. -/
def joined (a : FVec Ideal S2048x100 .f32) (v : FVec Ideal S256x8x100 .f32) (w : FVec Ideal S256x8 .f32) : FVec Ideal S1x256x200 .f32 :=
  let z := broadcastTo S256x8x100 (transpose S256x8x1 [0, 2, 1] (shapeCast S256x1x8 w shapeCasts_S256x8_S256x1x8) transposes_S256x1x8_p0_2_1_S256x8x1)
    broadcasts_S256x8x1_S256x8x100
  shapeCast S1x256x200 (concatenate S256x200 1
    [⟨S256x100, multiReduction .add [1] S256x100 (mulf v z) 0x00000000#32 reduces_S256x8x100_S256x100 (.inl rfl) rfl⟩,
     ⟨S256x100, multiReduction .add [1] S256x100 (mulf (shapeCast S256x8x100 a shapeCasts_S2048x100_S256x8x100) z) 0x00000000#32
       reduces_S256x8x100_S256x100 (.inl rfl) rfl⟩] concatenates_S256x100_S256x100_S256x200_d1) shapeCasts_S256x200_S1x256x200

theorem joined_apply (a : FVec Ideal S2048x100 .f32) (v : FVec Ideal S256x8x100 .f32) (w : FVec Ideal S256x8 .f32) (e : Fin 256) (d : Fin 200) :
    joined a v w (ix3 0 e d) = if h : d.val < 100 then ∑ n : Fin 8, v (ix3 e n ⟨d.val, h⟩) * w (ix2 e n)
      else ∑ n : Fin 8, a (ix2 ⟨e.val * 8 + n.val, by omega⟩ ⟨d.val - 100, by omega⟩) * w (ix2 e n) := by
  pointwise [joined]

/-- The stored value is the two mixes under the first hop's weights. -/
theorem stored (a : FVec Ideal S2048x100 .f32) (v : FVec Ideal S256x8x100 .f32) (s : FVec Ideal S256x8 .f32) :
    k0_pay1 a v s = joined a v (weights1 s) := rfl

/-- The first hop's values: the block itself, less its unit axis. -/
theorem values1 (v : Vec Ideal S1x256x8x100 .f32) (e : Fin 256) (n : Fin 8) (d : Fin 100) : k0_pay7 v (ix3 e n d) = v (ix4 0 e n d) := by
  pointwise [k0_pay7]

/-- The second hop's values, with the positions and the neighbours flattened: row `r` is position `r / 8`, neighbour `r % 8`. -/
theorem values2 (v : Vec Ideal S1x256x8x8x100 .f32) (r : Fin 2048) (n : Fin 8) (d : Fin 100) :
    k0_pay4 v (ix3 r n d) = v (ix5 0 ⟨r.val / 8, by omega⟩ ⟨r.val % 8, by omega⟩ n d) := by
  pointwise [k0_pay4]

/-- A block's query, from its state block, map and bias row. -/
def blockQuery (q : Vec Ideal S1x1x768 .f32) (W : Vec Ideal S100x768 .f32) (b : Vec Ideal S1x100 .f32) : Fin 100 → EReal :=
  query (fun x => q (ix3 0 0 x)) (fun c x => W (ix2 c x)) fun c => b (ix2 0 c)

/-- A block's first-hop scores at position `e`. -/
def blockNear (q : Vec Ideal S1x1x768 .f32) (W : Vec Ideal S100x768 .f32) (b : Vec Ideal S1x100 .f32) (Wkv : Vec Ideal S100x100 .f32)
    (k : Vec Ideal S1x256x8x100 .f32) (e : Fin 256) (n : Fin 8) : EReal :=
  foldedScore (fun j => k (ix4 0 e n j)) (fun c j => Wkv (ix2 c j)) (blockQuery q W b)

/-- A block's second-hop scores at position `e`, neighbour `n`. -/
def blockFar (q : Vec Ideal S1x1x768 .f32) (W : Vec Ideal S100x768 .f32) (b : Vec Ideal S1x100 .f32) (Wkv : Vec Ideal S100x100 .f32)
    (k : Vec Ideal S1x256x8x8x100 .f32) (e : Fin 256) (n n' : Fin 8) : EReal :=
  foldedScore (fun j => k (ix5 0 e n n' j)) (fun c j => Wkv (ix2 c j)) (blockQuery q W b)

/-- The whole block: the stored value at position `e`, column `d`, of the eleven blocks read. -/
theorem block (q : Vec Ideal S1x1x768 .f32) (k1 v1 : Vec Ideal S1x256x8x100 .f32) (k2 v2 : Vec Ideal S1x256x8x8x100 .f32)
    (Wq1 : Vec Ideal S100x768 .f32) (Wkv1 : Vec Ideal S100x100 .f32) (b1 : Vec Ideal S1x100 .f32)
    (Wq2 : Vec Ideal S100x768 .f32) (Wkv2 : Vec Ideal S100x100 .f32) (b2 : Vec Ideal S1x100 .f32) (e : Fin 256) (d : Fin 200) :
    k0_pay1 (k0_pay6 (k0_pay4 v2) (k0_pay5 q Wq2 b2 Wkv2 k2)) (k0_pay7 v1) (k0_pay8 (k0_pay3 q Wq1 b1 Wkv1) k1) (ix3 0 e d)
      = if h : d.val < 100 then mix (fun n => v1 (ix4 0 e n ⟨d.val, h⟩)) (blockNear q Wq1 b1 Wkv1 k1 e)
        else mix (fun n => mix (fun n' => v2 (ix5 0 e n n' ⟨d.val - 100, by omega⟩)) (blockFar q Wq2 b2 Wkv2 k2 e n)) (blockNear q Wq1 b1 Wkv1 k1 e) := by
  have hs : (fun n => k0_pay8 (k0_pay3 q Wq1 b1 Wkv1) k1 (ix2 e n)) = blockNear q Wq1 b1 Wkv1 k1 e := funext fun n => by
    rw [scores1]; simp only [folded1]; rfl
  rw [stored, joined_apply]
  simp only [weights1_apply, hs, values1]
  refine dite_congr rfl (fun h => rfl) fun h => Finset.sum_congr rfl fun n _ => congrArg (· * weight _ n) ?_
  rw [mixed2]
  simp only [values2, scores2]
  have hn := n.isLt
  have e1 : (e.val * 8 + n.val) / 8 = e.val := by omega
  have e2 : (e.val * 8 + n.val) % 8 = n.val := by omega
  refine congrArg₂ mix (funext fun n' => ?_) (funext fun n' => ?_)
  · simp only [e1, e2]
  · have hn' := n'.isLt
    have e3 : ((e.val * 8 + n.val) * 8 + n'.val) / 64 = e.val := by omega
    have e4 : ((e.val * 8 + n.val) * 8 + n'.val) / 8 % 8 = n.val := by omega
    have e5 : ((e.val * 8 + n.val) * 8 + n'.val) % 8 = n'.val := by omega
    simp only [e3, e4, e5]
    rfl

end Cert.Att.Block

end
-- ==== Proof.Array.lean ====
/- What the kernel's result array holds after the run: two-hop attention of the arguments, under the kernel's score. -/
module

public import proofs.«01_k».proof.Proof.Block
public import Idealize.ShloMosaic.Lib.Pipeline.ValueKit

@[expose] public section

set_option maxRecDepth 16384

noncomputable section

open Idealize.ShloMosaic Idealize.ShloMosaic.TcCoe

namespace Cert.Att.Array

open Cert.KernelIdeal Cert.KernelIdeal.Gen Cert.Att.Block

variable (m : (ℓ : Loc nD τ sig) → Buf (Elt Ideal) ℓ)

/-- The kernel's result as one function of the argument arrays of device `c`. -/
def whole (c : Dev nD) : Vec Ideal S4x512x200 .f32 := fun i =>
  att foldedScore (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) (i 0) (i 1) (i 2)

/-- Each window's block index at a grid point, from the point's two coordinates. -/
theorem idx : ∀ t : Fin cfg0.N, win0_0.index t = ![(grid0.coords t 0).val, 0, 0]
    ∧ win0_1.index t = ![(grid0.coords t 0).val, (grid0.coords t 1).val, 0, 0]
    ∧ win0_2.index t = ![(grid0.coords t 0).val, (grid0.coords t 1).val, 0, 0]
    ∧ win0_3.index t = ![(grid0.coords t 0).val, (grid0.coords t 1).val, 0, 0, 0]
    ∧ win0_4.index t = ![(grid0.coords t 0).val, (grid0.coords t 1).val, 0, 0, 0]
    ∧ win0_5.index t = ![0, 0] ∧ win0_6.index t = ![0, 0] ∧ win0_7.index t = ![0, 0]
    ∧ win0_8.index t = ![0, 0] ∧ win0_9.index t = ![0, 0] ∧ win0_10.index t = ![0, 0]
    ∧ win0_11.index t = ![(grid0.coords t 0).val, (grid0.coords t 1).val, 0]
    ∧ (grid0.coords t 0).val < 4 ∧ (grid0.coords t 1).val < 2 := by decide +kernel

/-- The batch entry of a grid point. -/
def batch (t : Fin cfg0.N) : Fin 4 := ⟨(grid0.coords t 0).val, by have := idx t; omega⟩

/-- The position, in the whole sequence, of a grid point's `e`-th position. -/
def place (t : Fin cfg0.N) (e : Fin 256) : Fin 512 := ⟨(grid0.coords t 1).val * 256 + e.val, by have := idx t; omega⟩

/-- Window 0's block holds the first position's state of the point's batch entry. -/
theorem read0 (c : Dev nD) (t : Fin cfg0.N) (x : Fin 768) :
    iblk m c 0 t (ix3 (0 : Fin 1) (0 : Fin 1) x) = m ((c : Thread nD τ).loc main_arg1) (ix3 (batch t) (0 : Fin 512) x) := by
  blk_ext! [iblk, V, idx t, batch]

/-- Window 1's block holds the point's 256 positions of the first hop's keys. -/
theorem read1 (c : Dev nD) (t : Fin cfg0.N) (e : Fin 256) (n : Fin 8) (j : Fin 100) :
    iblk m c 1 t (ix4 (0 : Fin 1) e n j) = m ((c : Thread nD τ).loc main_arg2) (ix4 (batch t) (place t e) n j) := by
  blk_ext! [iblk, V, idx t, batch, place]

/-- Window 2's block holds the point's 256 positions of the first hop's values. -/
theorem read2 (c : Dev nD) (t : Fin cfg0.N) (e : Fin 256) (n : Fin 8) (j : Fin 100) :
    iblk m c 2 t (ix4 (0 : Fin 1) e n j) = m ((c : Thread nD τ).loc main_arg3) (ix4 (batch t) (place t e) n j) := by
  blk_ext! [iblk, V, idx t, batch, place]

/-- Window 3's block holds the point's 256 positions of the second hop's keys. -/
theorem read3 (c : Dev nD) (t : Fin cfg0.N) (e : Fin 256) (n n' : Fin 8) (j : Fin 100) :
    iblk m c 3 t (ix5 (0 : Fin 1) e n n' j) = m ((c : Thread nD τ).loc main_arg4) (ix5 (batch t) (place t e) n n' j) := by
  blk_ext! [iblk, V, idx t, batch, place]

/-- Window 4's block holds the point's 256 positions of the second hop's values. -/
theorem read4 (c : Dev nD) (t : Fin cfg0.N) (e : Fin 256) (n n' : Fin 8) (j : Fin 100) :
    iblk m c 4 t (ix5 (0 : Fin 1) e n n' j) = m ((c : Thread nD τ).loc main_arg5) (ix5 (batch t) (place t e) n n' j) := by
  blk_ext! [iblk, V, idx t, batch, place]

/-- Window 5's block holds the first hop's query map, whole. -/
theorem read5 (c : Dev nD) (t : Fin cfg0.N) (a : Fin 100) (x : Fin 768) :
    iblk m c 5 t (ix2 a x) = m ((c : Thread nD τ).loc main_arg8) (ix2 a x) := by
  blk_ext! [iblk, V, idx t]

/-- Window 6's block holds the first hop's key projection, whole. -/
theorem read6 (c : Dev nD) (t : Fin cfg0.N) (a x : Fin 100) :
    iblk m c 6 t (ix2 a x) = m ((c : Thread nD τ).loc main_arg6) (ix2 a x) := by
  blk_ext! [iblk, V, idx t]

/-- Window 7's block holds the first hop's query bias, as one row. -/
theorem read7 (c : Dev nD) (t : Fin cfg0.N) (x : Fin 100) :
    iblk m c 7 t (ix2 (0 : Fin 1) x) = m ((c : Thread nD τ).loc main_arg9) (ix1 x) := by
  blk_ext! [iblk, V, idx t]

/-- Window 8's block holds the second hop's query map, whole. -/
theorem read8 (c : Dev nD) (t : Fin cfg0.N) (a : Fin 100) (x : Fin 768) :
    iblk m c 8 t (ix2 a x) = m ((c : Thread nD τ).loc main_arg10) (ix2 a x) := by
  blk_ext! [iblk, V, idx t]

/-- Window 9's block holds the second hop's key projection, whole. -/
theorem read9 (c : Dev nD) (t : Fin cfg0.N) (a x : Fin 100) :
    iblk m c 9 t (ix2 a x) = m ((c : Thread nD τ).loc main_arg7) (ix2 a x) := by
  blk_ext! [iblk, V, idx t]

/-- Window 10's block holds the second hop's query bias, as one row. -/
theorem read10 (c : Dev nD) (t : Fin cfg0.N) (x : Fin 100) :
    iblk m c 10 t (ix2 (0 : Fin 1) x) = m ((c : Thread nD τ).loc main_arg11) (ix1 x) := by
  blk_ext! [iblk, V, idx t]

/-- The two queries a block makes are its batch entry's queries. -/
theorem query1 (c : Dev nD) (t : Fin cfg0.N) : blockQuery (iblk m c 0 t) (iblk m c 5 t) (iblk m c 7 t)
    = queryAt (m ((c : Thread nD τ).loc main_arg1)) (m ((c : Thread nD τ).loc main_arg8)) (m ((c : Thread nD τ).loc main_arg9)) (batch t) := by
  unfold blockQuery queryAt
  simp only [read0, read5, read7]

theorem query2 (c : Dev nD) (t : Fin cfg0.N) : blockQuery (iblk m c 0 t) (iblk m c 8 t) (iblk m c 10 t)
    = queryAt (m ((c : Thread nD τ).loc main_arg1)) (m ((c : Thread nD τ).loc main_arg10)) (m ((c : Thread nD τ).loc main_arg11)) (batch t) := by
  unfold blockQuery queryAt
  simp only [read0, read8, read10]

/-- After the run the result array is two-hop attention of the arguments: every block is written back whole, each at its own
    batch entry and positions. -/
theorem final (c : Dev nD) : (dats m 0 c).arrAt 11 cfg0.N = whole m c := by
  refine (dats m 0 c).arrAt_eq_of_covers 11 _ (by decide +kernel) fun t hf y => ?_
  blk_simp
  rw [after0_11]
  frame_out
  change S1x256x200.Idx at y
  idx_vars y
  obtain rfl : y0 = 0 := Subsingleton.elim _ _
  have hy : ((View.whole main_v5).slice (win0_11.rect t)).emb (ix3 0 y1 y2) = ix3 (batch t) (place t y1) y2 := by
    blk_ext [idx t, batch, place]
  rw [hy, block]
  show _ = att _ _ _ _ _ _ _ _ _ _ _ _ (batch t) (place t y1) y2
  unfold att blockNear blockFar near far
  simp only [query1, query2, read1, read2, read3, read4, read6, read9]

end Cert.Att.Array

end
-- ==== Proof.Ref.lean ====
/- What the reference computes before it redistributes the positions: two-hop attention of the arguments, under the reference's
   score. Each named value of the reference is read at an index in terms of the one before it. -/
module

public import proofs.«01_k».proof.Proof.Spec
public import proofs.«01_k».proof.Proof.Gen.ReferenceIdeal.Run
public import Idealize.ShloMosaic.Lib.Pointwise
public import Idealize.ShloMosaic.Lib.Tactic.CleanTypes

@[expose] public section

set_option maxRecDepth 16384

noncomputable section

open Idealize.ShloMosaic Idealize.ShloMosaic.TcCoe

namespace Cert.Att.Ref

open Cert.ReferenceIdeal Cert.ReferenceIdeal.Gen Cert.ReferenceIdeal.Value

variable (A : Valuation τ sig (Elt Ideal))

/-- The state the queries are made of: the first position's. -/
theorem state (b : Fin 4) (x : Fin 768) : res_main_v1 A (ix2 b x) = A (Proc.devRef .tc main_arg1) (ix3 b (0 : Fin 512) x) := by
  unfold res_main_v1
  clean_types
  pointwise

/-- The maximum taken from −∞ a second time is the maximum. -/
theorem top_again (s : Fin 8 → EReal) : max (Ideal.ofBits .f32 0xFF800000#32) (top s) = top s :=
  max_eq_right ((Finset.le_fold_max _).2 (Or.inl le_rfl))

/-! ## The second hop -/

/-- The second hop's scores. -/
theorem scores2 (b : Fin 4) (e : Fin 512) (n n' : Fin 8) : res_main_v15 A (ix4 b e n n')
    = far projectedScore (A (Proc.devRef .tc main_arg1)) (A (Proc.devRef .tc main_arg4)) (A (Proc.devRef .tc main_arg7))
        (A (Proc.devRef .tc main_arg10)) (A (Proc.devRef .tc main_arg11)) b e n n' := by
  unfold res_main_v15 far projectedScore queryAt query
  clean_types
  pointwise [state]

/-- The second hop's scores, a zero score marked. -/
theorem marked2 (b : Fin 4) (e : Fin 512) (n n' : Fin 8) : res_main_v18 A (ix4 b e n n') = marked (res_main_v15 A (ix4 b e n n')) := by
  unfold res_main_v18 marked
  clean_types
  pointwise [id]

/-- … rectified, … -/
theorem leaky2 (b : Fin 4) (e : Fin 512) (n n' : Fin 8) : res_main_v19 A (ix4 b e n n') = leaky (res_main_v15 A (ix4 b e n n')) := by
  unfold res_main_v19 leaky
  clean_types
  pointwise [marked2]

/-- … exponentiated, … -/
theorem expo2 (b : Fin 4) (e : Fin 512) (n n' : Fin 8) :
    res_main_v26 A (ix4 b e n n') = expo (fun n' => res_main_v15 A (ix4 b e n n')) n' := by
  unfold res_main_v26 expo
  rw [← top_again]
  unfold top
  clean_types
  pointwise [leaky2]

/-- … and normalised. -/
theorem soft2 (b : Fin 4) (e : Fin 512) (n n' : Fin 8) :
    res_main_v30 A (ix4 b e n n') = soft (fun n' => res_main_v15 A (ix4 b e n n')) n' := by
  unfold res_main_v30 soft
  clean_types
  pointwise [expo2]

/-! ## The first hop -/

/-- The first hop's scores. -/
theorem scores1 (b : Fin 4) (e : Fin 512) (n : Fin 8) : res_main_v51 A (ix3 b e n)
    = near projectedScore (A (Proc.devRef .tc main_arg1)) (A (Proc.devRef .tc main_arg2)) (A (Proc.devRef .tc main_arg6))
        (A (Proc.devRef .tc main_arg8)) (A (Proc.devRef .tc main_arg9)) b e n := by
  unfold res_main_v51 near projectedScore queryAt query
  clean_types
  pointwise [state]

/-- The first hop's scores, a zero score marked. -/
theorem marked1 (b : Fin 4) (e : Fin 512) (n : Fin 8) : res_main_v54 A (ix3 b e n) = marked (res_main_v51 A (ix3 b e n)) := by
  unfold res_main_v54 marked
  clean_types
  pointwise [id]

/-- … rectified, … -/
theorem leaky1 (b : Fin 4) (e : Fin 512) (n : Fin 8) : res_main_v55 A (ix3 b e n) = leaky (res_main_v51 A (ix3 b e n)) := by
  unfold res_main_v55 leaky
  clean_types
  pointwise [marked1]

/-- … exponentiated, … -/
theorem expo1 (b : Fin 4) (e : Fin 512) (n : Fin 8) : res_main_v62 A (ix3 b e n) = expo (fun n => res_main_v51 A (ix3 b e n)) n := by
  unfold res_main_v62 expo
  rw [← top_again]
  unfold top
  clean_types
  pointwise [leaky1]

/-- … and normalised. -/
theorem soft1 (b : Fin 4) (e : Fin 512) (n : Fin 8) : res_main_v66 A (ix3 b e n) = soft (fun n => res_main_v51 A (ix3 b e n)) n := by
  unfold res_main_v66 soft
  clean_types
  pointwise [expo1]

/-! ## The two hops together -/

/-- The second hop's mixed values: one vector of a hundred for each neighbour. -/
def mixed2 : Vec Ideal S4x512x8x100 .f32 :=
  shapeCast _ (Host.dotGeneral (φ₂ := .f32) dot_S4x512x8x1x8_S4x512x8x8x100_S4x512x8x1x100_4_3_3_4_012_012 none (broadcastInDim S4x512x8x1x8 ![0, 1, 2, 4] bcast_S4x512x8x8_S4x512x8x1x8_0_1_2_4 (select (cmpf .oeq (res_main_v30 A) (broadcastInDim S4x512x8x8 ![] bcast_S_S4x512x8x8 (constant S_ .f32 0x3E000000#32))) (broadcastInDim S4x512x8x8 ![] bcast_S_S4x512x8x8 (id (constant S_ .f32 0x00000000#32))) (res_main_v30 A))) (A (Proc.devRef .tc main_arg5))) shapeCasts_S4x512x8x1x100_S4x512x8x100

/-- What the reference redistributes: the first-hop mix of the values and the mixed second-hop values, side by side. -/
def combined : Vec Ideal S4x512x200 .f32 :=
  shapeCast _ (Host.dotGeneral (φ₂ := .f32) dot_S4x512x1x8_S4x512x8x200_S4x512x1x200_3_2_2_3_01_01 none (broadcastInDim S4x512x1x8 ![0, 1, 3] bcast_S4x512x8_S4x512x1x8_0_1_3 (select (cmpf .oeq (res_main_v66 A) (broadcastInDim S4x512x8 ![] bcast_S_S4x512x8 (constant S_ .f32 0x3E000000#32))) (broadcastInDim S4x512x8 ![] bcast_S_S4x512x8 (id (constant S_ .f32 0x00000000#32))) (res_main_v66 A))) (concatenate S4x512x8x200 3 [⟨S4x512x8x100, (A (Proc.devRef .tc main_arg3) : Vec Ideal S4x512x8x100 .f32)⟩, ⟨S4x512x8x100, mixed2 A⟩] concatenates_S4x512x8x100_S4x512x8x100_S4x512x8x200_d3)) shapeCasts_S4x512x1x200_S4x512x200

/-- The second hop's mixed values, read at an index. -/
theorem mixed2_apply (b : Fin 4) (e : Fin 512) (n : Fin 8) (d : Fin 100) : mixed2 A (ix4 b e n d)
    = mix (fun n' => A (Proc.devRef .tc main_arg5) (ix5 b e n n' d)) fun n' => res_main_v15 A (ix4 b e n n') := by
  unfold mixed2 mix weight
  clean_types
  pointwise [soft2, id]
  exact Finset.sum_congr rfl fun n' _ => mul_comm (_ : EReal) _

/-- What the reference redistributes is two-hop attention of the arguments, under the reference's score. -/
theorem combined_apply (b : Fin 4) (e : Fin 512) (d : Fin 200) : combined A (ix3 b e d)
    = att projectedScore (A (Proc.devRef .tc main_arg1)) (A (Proc.devRef .tc main_arg2)) (A (Proc.devRef .tc main_arg3))
        (A (Proc.devRef .tc main_arg4)) (A (Proc.devRef .tc main_arg5)) (A (Proc.devRef .tc main_arg6)) (A (Proc.devRef .tc main_arg7))
        (A (Proc.devRef .tc main_arg8)) (A (Proc.devRef .tc main_arg9)) (A (Proc.devRef .tc main_arg10)) (A (Proc.devRef .tc main_arg11)) b e d := by
  have h1 : (fun n => res_main_v51 A (ix3 b e n)) = near projectedScore (A (Proc.devRef .tc main_arg1)) (A (Proc.devRef .tc main_arg2))
      (A (Proc.devRef .tc main_arg6)) (A (Proc.devRef .tc main_arg8)) (A (Proc.devRef .tc main_arg9)) b e := funext fun n => scores1 A b e n
  have h2 : ∀ n, (fun n' => res_main_v15 A (ix4 b e n n')) = far projectedScore (A (Proc.devRef .tc main_arg1)) (A (Proc.devRef .tc main_arg4))
      (A (Proc.devRef .tc main_arg7)) (A (Proc.devRef .tc main_arg10)) (A (Proc.devRef .tc main_arg11)) b e n := fun n => funext fun n' => scores2 A b e n n'
  unfold att
  rw [← h1]
  simp only [← h2]
  unfold combined
  clean_types
  pointwise [soft1, mixed2_apply, id]
  by_cases h : d.val < 100
  · simp only [dif_pos h]
    exact Finset.sum_congr rfl fun n _ => mul_comm (_ : EReal) _
  · simp only [dif_neg h]
    exact Finset.sum_congr rfl fun n _ => mul_comm (_ : EReal) _

end Cert.Att.Ref

end
-- ==== Proof.Tail.lean ====
/- The reference's redistribution of the positions, where every entity is marked: each position's rank is the position itself, so
   the reference returns what it computed, unmoved and unmasked. -/
module

public import proofs.«01_k».proof.Proof.Gen.ReferenceIdeal.Run
public import Idealize.ShloMosaic.Lib.Pointwise
public import Idealize.ShloMosaic.Lib.Routing.Ops
public import Idealize.ShloMosaic.Lib.Tactic.CleanTypes
public import Idealize.ShloMosaic.Lib.WordCmp

@[expose] public section

set_option maxRecDepth 16384

noncomputable section

open Idealize.ShloMosaic Idealize.ShloMosaic.TcCoe

namespace Cert.Att.Tail

open Cert.ReferenceIdeal Cert.ReferenceIdeal.Gen Cert.ReferenceIdeal.Value

/-- A running sum of ones along the second axis, as it prints (a window of the whole row, padded low by one less): entry `e` of a
    row is `e + 1`. -/
theorem running (x : IVec S4x512 32) (hx : x = fun _ => 1#32) (init : IVec S_ 32) (hi : init = fun _ => 0#32)
    (h : S4x512.ReduceWindows (![1, 512] : Fin 2 → Nat) ![1, 1] ![0, 511] ![0, 0] S4x512) (hu : 0 < S_.numel) (b : Fin 4) (e : Fin 512) :
    Host.reduceWindow IntOp.addi ![1, 512] ![1, 1] ![0, 511] ![0, 0] x init h hu (ix2 b e) = BitVec.ofNat 32 (e.val + 1) := by
  subst hx hi
  have hb := b.isLt
  have he := e.isLt
  unfold Host.reduceWindow
  refine (Routing.foldl_addi_ofNat _ _ (fun n => if 511 ≤ e.val + n.val then 1 else 0) (fun n _ => ?_) _ 0 rfl).trans ?_
  · have w0 : ((⟨2, ![1, 512]⟩ : Shape).rowMajor.symm n 0).val = 0 := by
      rw [show (⟨2, ![1, 512]⟩ : Shape).rowMajor.symm n = _ from Routing.symm2 n]; rfl
    have w1 : ((⟨2, ![1, 512]⟩ : Shape).rowMajor.symm n 1).val = n.val := by
      rw [show (⟨2, ![1, 512]⟩ : Shape).rowMajor.symm n = _ from Routing.symm2 n]; rfl
    have hn : n.val < 512 := (n.cast (Routing.numel2 512)).isLt
    dsimp only
    split
    · next hin =>
      have h1 := (hin 1).1
      change 511 ≤ e.val * 1 + ((⟨2, ![1, 512]⟩ : Shape).rowMajor.symm n 1).val at h1
      rw [w1] at h1
      rw [if_pos (by omega)]
    · next hin =>
      rw [if_neg fun hle => hin fun a => by
        match a with
        | ⟨0, _⟩ =>
          show 0 ≤ b.val * 1 + ((⟨2, ![1, 512]⟩ : Shape).rowMajor.symm n 0).val
            ∧ b.val * 1 + ((⟨2, ![1, 512]⟩ : Shape).rowMajor.symm n 0).val - 0 < 4
          rw [w0]
          omega
        | ⟨1, _⟩ =>
          show 511 ≤ e.val * 1 + ((⟨2, ![1, 512]⟩ : Shape).rowMajor.symm n 1).val
            ∧ e.val * 1 + ((⟨2, ![1, 512]⟩ : Shape).rowMajor.symm n 1).val - 511 < 512
          rw [w1]
          omega]
  · rw [Nat.zero_add, Routing.map_finRange_val _ fun w => if 511 ≤ e.val + w then 1 else 0,
      show (⟨2, ![1, 512]⟩ : Shape).numel = 511 + 1 from Routing.numel2 512, Routing.sum_window (fun _ => 1) 511 e.val (by omega)]
    simp

variable (A : Valuation τ sig (Elt Ideal))

/-- Every entity marked: the mask is set everywhere. -/
theorem mask (h0 : ∀ i, A (Proc.devRef .tc main_arg0) i ≠ 0#32) : res_main_v74 A = fun _ => 1#1 := by
  funext i
  have := h0 i
  unfold res_main_v74
  clean_types
  idx_vars i
  pointwise
  word_cmp
  exact fun h => this (BitVec.eq_of_toNat_eq h)

/-- One less than a successor, clipped at zero, is the number. -/
theorem less_one : ∀ e : Fin 512, IntOp.maxsi 0#32 (IntOp.subi (BitVec.ofNat 32 (e.val + 1)) 1#32) = BitVec.ofNat 32 e.val := by decide +kernel

/-- A position is not negative, so it is not wrapped. -/
theorem no_wrap : ∀ e : Fin 512, Scalar.select (IntOp.cmpi .slt (BitVec.ofNat 32 e.val) 0#32) (IntOp.addi (BitVec.ofNat 32 e.val) 512#32)
    (BitVec.ofNat 32 e.val) = BitVec.ofNat 32 e.val := by decide +kernel

/-- A position is in range. -/
theorem in_range : ∀ e : Fin 512, IntOp.andi (IntOp.cmpi .sge (BitVec.ofNat 32 e.val) 0#32) (IntOp.cmpi .sle (BitVec.ofNat 32 e.val) 511#32) = 1#1 := by
  decide +kernel

/-- The clipped rank of position `e` is `e`. -/
theorem rank (h0 : ∀ i, A (Proc.devRef .tc main_arg0) i ≠ 0#32) (b : Fin 4) (e : Fin 512) :
    res_main_v80 A (ix3 b e 0) = BitVec.ofNat 32 e.val := by
  unfold res_main_v80
  rw [mask A h0]
  clean_types
  pointwise [id]
  exact (congrArg (fun w => IntOp.maxsi 0#32 (IntOp.subi w 1#32)) (running _ rfl _ rfl _ _ b e)).trans (less_one e)

/-- … and so is the index that the gather reads by. -/
theorem wrapped (h0 : ∀ i, A (Proc.devRef .tc main_arg0) i ≠ 0#32) (b : Fin 4) (e : Fin 512) :
    res_main_call8_v4 A (ix3 b e 0) = BitVec.ofNat 32 e.val := by
  unfold res_main_call8_v4
  clean_types
  pointwise [rank A h0]
  exact no_wrap e

/-- A position, read as a signed number and clamped to the last, is itself. -/
theorem clamp : ∀ e : Fin 512, min (BitVec.ofNat 32 e.val).toInt.toNat 511 = e.val := by decide +kernel

/-- The gather along the positions reads, at batch entry `b` and position `e`, the row that its index names. -/
theorem gathered (x : Vec Ideal S4x512x200 .f32) (idx : IVec S4x512x1 32) (b : Fin 4) (e : Fin 512) (d : Fin 200)
    (h : idx (ix3 b e 0) = BitVec.ofNat 32 e.val) :
    Host.gather gather_S4x512x200_S4x512x1_S4x512x200_2_1_0_0_1_2_11200 x idx (ix3 b e d) = x (ix3 b e d) := by
  have hs : gather_S4x512x200_S4x512x1_S4x512x200_2_1_0_0_1_2_11200.siIdx (ix3 b e d) ⟨0, Nat.one_pos⟩ = ix3 b e 0 := by
    funext a
    match a with
    | ⟨0, _⟩ => rfl
    | ⟨1, _⟩ => rfl
    | ⟨2, _⟩ => rfl
  unfold Host.gather
  refine congrArg x (funext fun a => Fin.ext ?_)
  match a with
  | ⟨0, _⟩ =>
    show GatherDims.start _ (ix3 b e d) idx 0 + GatherDims.batchCoord _ (ix3 b e d) 0 + GatherDims.offCoord _ (ix3 b e d) 0 = b.val
    unfold GatherDims.start GatherDims.offCoord GatherDims.batchCoord
    rw [dif_neg (by decide), dif_pos (by decide), dif_neg (by decide), Nat.zero_add, Nat.add_zero]
    rfl
  | ⟨1, _⟩ =>
    show GatherDims.start _ (ix3 b e d) idx 1 + GatherDims.batchCoord _ (ix3 b e d) 1 + GatherDims.offCoord _ (ix3 b e d) 1 = e.val
    unfold GatherDims.start GatherDims.offCoord GatherDims.batchCoord
    rw [dif_pos (by decide), dif_neg (by decide), dif_neg (by decide), Nat.add_zero]
    refine (congrArg (fun w : BitVec 32 => min w.toInt.toNat 511) ((congrArg idx hs).trans h)).trans ?_
    exact clamp e
  | ⟨2, _⟩ =>
    show GatherDims.start _ (ix3 b e d) idx 2 + GatherDims.batchCoord _ (ix3 b e d) 2 + GatherDims.offCoord _ (ix3 b e d) 2 = d.val
    unfold GatherDims.start GatherDims.offCoord GatherDims.batchCoord
    rw [dif_neg (by decide), dif_neg (by decide), dif_pos (by decide), Nat.zero_add]
    rfl

/-- The reference's last operations, on what it computed (`x`), return `x`. -/
theorem unmoved (h0 : ∀ i, A (Proc.devRef .tc main_arg0) i ≠ 0#32) (x : Vec Ideal S4x512x200 .f32) :
    select (broadcastInDim S4x512x200 ![0, 1, 2] bcast_S4x512x1_S4x512x200_0_1_2 (broadcastInDim S4x512x1 ![0, 1]
      bcast_S4x512_S4x512x1_0_1 (res_main_v74 A))) (select (broadcastInDim S4x512x200 ![0, 1] bcast_S4x512_S4x512x200_0_1
      (Host.reduce IntOp.andi (andi (cmpi .sge (res_main_call8_v4 A) (broadcastInDim S4x512x1 ![] bcast_S_S4x512x1 (constantI
      S_ 32 0#32))) (cmpi .sle (res_main_call8_v4 A) (broadcastInDim S4x512x1 ![0, 1, 2] bcast_S1x1x1_S4x512x1_0_1_2
      (broadcastInDim S1x1x1 ![2] bcast_S1_S1x1x1_2 (constantI S1 32 511#32))))) (constantI S_ 1 1#1)
      reducesTo_S4x512x1_S4x512_d2 h_S_)) (Host.gather gather_S4x512x200_S4x512x1_S4x512x200_2_1_0_0_1_2_11200 x
      (res_main_call8_v4 A)) (broadcastInDim S4x512x200 ![] bcast_S_S4x512x200 (constant (F := Ideal) S_ .f32 0x7FC00000#32)))
      (broadcastInDim S4x512x200 ![] bcast_S_S4x512x200 (id (constant (F := Ideal) S_ .f32 0x00000000#32))) = x := by
  funext i
  idx_vars i
  rw [mask A h0]
  clean_types
  pointwise [wrapped A h0, id]
  have hb : IntOp.andi (IntOp.cmpi .sge (res_main_call8_v4 A (ix3 i0 i1 0)) 0#32)
      (IntOp.cmpi .sle (res_main_call8_v4 A (ix3 i0 i1 0)) 511#32) = 1#1 := by
    rw [wrapped A h0]
    exact in_range i1
  rw [Finset.univ_unique, Finset.fold_singleton, gathered x _ i0 i1 i2 (wrapped A h0 i0 i1)]
  have hf := (congrArg (fun w => IntOp.andi w 1#1) hb).trans (show IntOp.andi 1#1 1#1 = 1#1 by decide)
  exact (congrArg (fun w => Scalar.select w _ _) hf).trans rfl

end Cert.Att.Tail

end
-- ==== Proof.Equation.lean ====
/- The equation between the two programs: under the precondition the reference's result array is the kernel's. -/
module

public import proofs.«01_k».proof.Proof.Array
public import proofs.«01_k».proof.Proof.Ref
public import proofs.«01_k».proof.Proof.Tail
public import proofs.«01_k».proof.Proof.Pre
public import proofs.«01_k».proof.Proof.Gen.KernelIdeal.Value
public import Idealize.ShloMosaic.Lib.Claim

@[expose] public section

set_option maxRecDepth 16384

noncomputable section

open Idealize.ShloMosaic Idealize.ShloMosaic.TcCoe

namespace Cert.Att.Equation

open Cert.ReferenceIdeal Cert.ReferenceIdeal.Gen Cert.Att.Ref Cert.Att.Tail

variable (m : (ℓ : Loc Cert.KernelIdeal.nD Cert.KernelIdeal.τ Cert.KernelIdeal.sig) → Buf (Elt Ideal) ℓ)
  (A : Valuation τ sig (Elt Ideal)) (c : Dev Cert.KernelIdeal.nD)

/-- The reference's contents `A` hold, in its argument buffers, what the kernel's memory holds in its own on device `c`. -/
structure Agree : Prop where
  a0 : A (Proc.devRef .tc main_arg0) = m (c.tc.loc Cert.KernelIdeal.main_arg0)
  a1 : A (Proc.devRef .tc main_arg1) = m (c.tc.loc Cert.KernelIdeal.main_arg1)
  a2 : A (Proc.devRef .tc main_arg2) = m (c.tc.loc Cert.KernelIdeal.main_arg2)
  a3 : A (Proc.devRef .tc main_arg3) = m (c.tc.loc Cert.KernelIdeal.main_arg3)
  a4 : A (Proc.devRef .tc main_arg4) = m (c.tc.loc Cert.KernelIdeal.main_arg4)
  a5 : A (Proc.devRef .tc main_arg5) = m (c.tc.loc Cert.KernelIdeal.main_arg5)
  a6 : A (Proc.devRef .tc main_arg6) = m (c.tc.loc Cert.KernelIdeal.main_arg6)
  a7 : A (Proc.devRef .tc main_arg7) = m (c.tc.loc Cert.KernelIdeal.main_arg7)
  a8 : A (Proc.devRef .tc main_arg8) = m (c.tc.loc Cert.KernelIdeal.main_arg8)
  a9 : A (Proc.devRef .tc main_arg9) = m (c.tc.loc Cert.KernelIdeal.main_arg9)
  a10 : A (Proc.devRef .tc main_arg10) = m (c.tc.loc Cert.KernelIdeal.main_arg10)
  a11 : A (Proc.devRef .tc main_arg11) = m (c.tc.loc Cert.KernelIdeal.main_arg11)

/-- From arguments that agree and satisfy the precondition, what the reference computes before it redistributes the positions is
    the kernel's result array. -/
theorem combined_eq (hpre : Pre_KernelIdeal_in_range m) (h : Agree m A c) : combined A = Array.whole m c := by
  funext i
  idx_vars i
  rw [combined_apply, h.a1, h.a2, h.a3, h.a4, h.a5, h.a6, h.a7, h.a8, h.a9, h.a10, h.a11]
  exact (att_swap _ _ _ _ _ _ _ _ _ _ _ (Pre.keys1 m c hpre) (Pre.keys2 m c hpre) (Pre.matrix1 m c hpre) (Pre.matrix2 m c hpre) _ _ _).symm

/-- From arguments that agree and satisfy the precondition, no entity index that the reference reads is zero. -/
theorem ent_ne (hpre : Pre_KernelIdeal_in_range m) (h : Agree m A c) (i : (⟨2, ![4, 512]⟩ : Shape).Idx) :
    A (Proc.devRef .tc main_arg0) i ≠ 0#32 := by
  rw [h.a0]
  exact Pre.ent m c hpre i

end Cert.Att.Equation

namespace Cert.Proof

/-- The claim of equal results: from arguments that agree and satisfy the precondition, both programs' result arrays end at two-hop
    attention of the arguments. -/
theorem algebraic : Cert.algebraic_KernelIdeal_ReferenceIdeal_pre_in_range := by
  intro m g m' g' hpre hagree
  refine ⟨fun c => Cert.Att.Array.whole m c, ?_, ?_⟩
  · exact (θ_run Cert.KernelIdeal.defs _ _).mono (fun _ h c => ⟨(h c).1.trans (Cert.Att.Array.final m c), (h c).2⟩)
      (Cert.KernelIdeal.Value.run_blocks (F := Ideal) m g)
  · refine (θ_run Cert.ReferenceIdeal.defs _ _).mono (fun _ h c => ⟨(h c).1.trans ?_, (h c).2⟩)
      (Cert.ReferenceIdeal.Value.run (F := Ideal) m' g')
    have ha : Cert.Att.Equation.Agree m (StableHlo.launchContents m' c) c := by
      obtain ⟨h0, h1, h2, h3, h4, h5, h6, h7, h8, h9, h10, h11⟩ := hagree c
      exact ⟨h0, h1, h2, h3, h4, h5, h6, h7, h8, h9, h10, h11⟩
    exact (Cert.Att.Tail.unmoved _ (Cert.Att.Equation.ent_ne m _ c hpre ha) (Cert.Att.Ref.combined (StableHlo.launchContents m' c))).trans
      (Cert.Att.Equation.combined_eq m _ c hpre ha)

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Pre
public import proofs.«01_k».proof.Proof.Equation
public import Idealize.ShloMosaic.Adequacy
public import Idealize.ShloMosaic.Init

@[expose] public section

noncomputable section

namespace Cert.Proof

open Idealize.ShloMosaic Idealize.SL.Sem

/-- The kernel as printed runs, keeps its arguments and leaves every semaphore at zero. -/
theorem frame_kernel : Cert.quiescent_Kernel := fun m ρ _ => Cert.Kernel.Gen.frame m ρ

/-- So does its idealization, … -/
theorem frame_kernelIdeal : Cert.quiescent_KernelIdeal := fun m ρ _ => Cert.KernelIdeal.Gen.frame m ρ

/-- … also under the precondition. -/
theorem frame_kernelIdeal_pre : Cert.quiescent_KernelIdeal_pre_in_range := fun m ρ _ => Cert.KernelIdeal.Gen.frame m ρ

/-- The reference runs and keeps its arguments; it declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So it does under the precondition. -/
theorem frame_referenceIdeal_pre : Cert.quiescent_ReferenceIdeal_pre_in_range := fun m ρ _ => frame_referenceIdeal m ρ trivial

/-- All that the certificate claims. -/
theorem claim : Cert.Claim :=
  ⟨Cert.Kernel.Gen.facts, Cert.KernelIdeal.Gen.facts, Cert.ReferenceIdeal.Gen.facts, Cert.Pre_in_range.facts,
    frame_kernel, frame_kernelIdeal, frame_kernelIdeal_pre, frame_referenceIdeal, frame_referenceIdeal_pre, trivial, algebraic⟩

end Cert.Proof

end
